-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "half_log2e" .f32 0x3F38AA3B#32 (((1 / 2) * (Real.log 2)⁻¹ : ℝ) : EReal)
  ∧ IdealRules.named_const.Statement Cert.KernelIdeal.κ "neg_log2e_25_2" .f32 0xC19044FE#32 (((-25 / 2) * (Real.log 2)⁻¹ : ℝ) : EReal)
  ∧ IdealRules.named_const.Statement Cert.KernelIdeal.κ "bin_step" .f32 0x3E4CCCCD#32 ((1 / 5 : ℝ) : EReal)
  ∧ IdealRules.named_const.Statement Cert.KernelIdeal.κ "bin_8" .f32 0xC059999A#32 ((-17 / 5 : ℝ) : EReal)
  ∧ IdealRules.named_const.Statement Cert.KernelIdeal.κ "bin_16" .f32 0xBFE66666#32 ((-9 / 5 : ℝ) : EReal)
  ∧ IdealRules.named_const.Statement Cert.KernelIdeal.κ "bin_24" .f32 0xBE4CCCCD#32 ((-1 / 5 : ℝ) : EReal)
  ∧ IdealRules.named_const.Statement Cert.KernelIdeal.κ "bin_32" .f32 0x3FB33333#32 ((7 / 5 : ℝ) : EReal)
  ∧ IdealRules.named_const.Statement Cert.KernelIdeal.κ "bin_48" .f32 0x40933333#32 ((23 / 5 : ℝ) : EReal)
  ∧ IdealRules.named_const.Statement Cert.KernelIdeal.κ "two_pi_25" .f32 0x3E80ADFD#32 ((2635359 / 10485760 : ℝ) : EReal)
  ∧ IdealRules.named_const.Statement Cert.KernelIdeal.κ "inv_mean" .f32 0x38A0A0A1#32 ((1 / 13056 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x64x64 : Shape := ⟨4, ![1, 256, 64, 64]⟩
abbrev S1x1x64x64 : Shape := ⟨4, ![1, 1, 64, 64]⟩
abbrev S_ : Shape := ⟨0, ![]⟩

class Facts : Prop where
  bcast_S_S1x256x64x64 : S_.BroadcastsInDim S1x256x64x64 (![] : Fin 0 → Fin S1x256x64x64.rank)

variable [Facts]

def fn {F : FTy → Type} [FloatOps F] (main_arg0 : FVec F S1x256x64x64 .f32) (main_arg1 : IVec S1x1x64x64 32) : IVec S1x256x64x64 1 :=
  let main_v0 : FVec F S1x256x64x64 .f32 := Host.absf main_arg0
  let main_cst : FVec F S_ .f32 := constant S_ .f32 0x7F800000#32
  let main_v1 : FVec F S1x256x64x64 .f32 := broadcastInDim S1x256x64x64 ![] bcast_S_S1x256x64x64 main_cst
  let main_v2 : IVec S1x256x64x64 1 := cmpf .olt main_v0 main_v1
  main_v2
-- ==== Kernel.lean ====
abbrev S1x256x64x64 : Shape := ⟨4, ![1, 256, 64, 64]⟩
abbrev S1x1x64x64 : Shape := ⟨4, ![1, 1, 64, 64]⟩
abbrev S256x64x64 : Shape := ⟨3, ![256, 64, 64]⟩
abbrev S256x4096 : Shape := ⟨2, ![256, 4096]⟩
abbrev S1x4096 : Shape := ⟨2, ![1, 4096]⟩
abbrev S1x1 : Shape := ⟨2, ![1, 1]⟩
abbrev S56x256x32 : Shape := ⟨3, ![56, 256, 32]⟩
abbrev S32x4096 : Shape := ⟨2, ![32, 4096]⟩
abbrev S512x4096 : Shape := ⟨2, ![512, 4096]⟩
abbrev S512x32 : Shape := ⟨2, ![512, 32]⟩
abbrev S256x32 : Shape := ⟨2, ![256, 32]⟩
abbrev S1x32 : Shape := ⟨2, ![1, 32]⟩
abbrev S8x1x1 : Shape := ⟨3, ![8, 1, 1]⟩
abbrev S1x256x4096 : Shape := ⟨3, ![1, 256, 4096]⟩
abbrev S1x64x4096 : Shape := ⟨3, ![1, 64, 4096]⟩
abbrev S8x64x4096 : Shape := ⟨3, ![8, 64, 4096]⟩
abbrev S8x64x32 : Shape := ⟨3, ![8, 64, 32]⟩
abbrev S8x256x32 : Shape := ⟨3, ![8, 256, 32]⟩
abbrev S51x1x1 : Shape := ⟨3, ![51, 1, 1]⟩
abbrev S1x256x32 : Shape := ⟨3, ![1, 256, 32]⟩
abbrev S51x256x32 : Shape := ⟨3, ![51, 256, 32]⟩
abbrev S32 : Shape := ⟨1, ![32]⟩
abbrev S1 : Shape := ⟨1, ![1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S1x256x64x64, .f32⟩
  | .hbm, ⟨1, _⟩ => ⟨S1x1x64x64, .i32⟩
  | .hbm, ⟨2, _⟩ => ⟨S256x64x64, .f32⟩
  | .hbm, ⟨3, _⟩ => ⟨S256x4096, .f32⟩
  | .hbm, ⟨4, _⟩ => ⟨S1x4096, .i32⟩
  | .hbm, ⟨5, _⟩ => ⟨S1x1, .f32⟩
  | .hbm, ⟨6, _⟩ => ⟨S_, .f32⟩
  | .local _ .vmem, ⟨0, _⟩ => ⟨S256x4096, .f32⟩
  | .local _ .vmem, ⟨1, _⟩ => ⟨S1x4096, .i32⟩
  | .local _ .vmem, ⟨2, _⟩ => ⟨S1x1, .f32⟩
  | .local _ .vmem, ⟨3, _⟩ => ⟨S56x256x32, .f32⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "bin_16" => some ((-9 / 5 : ℝ) : EReal)
  | "bin_24" => some ((-1 / 5 : ℝ) : EReal)
  | "bin_32" => some ((7 / 5 : ℝ) : EReal)
  | "bin_48" => some ((23 / 5 : ℝ) : EReal)
  | "bin_8" => some ((-17 / 5 : ℝ) : EReal)
  | "bin_step" => some ((1 / 5 : ℝ) : EReal)
  | "half_log2e" => some (((1 / 2) * (Real.log 2)⁻¹ : ℝ) : EReal)
  | "inv_mean" => some ((1 / 13056 : ℝ) : EReal)
  | "neg_log2e_25_2" => some (((-25 / 2) * (Real.log 2)⁻¹ : ℝ) : EReal)
  | "two_pi_25" => some ((2635359 / 10485760 : ℝ) : EReal)
  | _ => none
-- ==== ReferenceIdeal.lean ====
abbrev S1x256x64x64 : Shape := ⟨4, ![1, 256, 64, 64]⟩
abbrev S1x1x64x64 : Shape := ⟨4, ![1, 1, 64, 64]⟩
abbrev S256x64x64 : Shape := ⟨3, ![256, 64, 64]⟩
abbrev S256x4096 : Shape := ⟨2, ![256, 4096]⟩
abbrev S64x64 : Shape := ⟨2, ![64, 64]⟩
abbrev S4096 : Shape := ⟨1, ![4096]⟩
abbrev S_ : Shape := ⟨0, ![]⟩
abbrev S50 : Shape := ⟨1, ![50]⟩
abbrev S1 : Shape := ⟨1, ![1]⟩
abbrev S51 : Shape := ⟨1, ![51]⟩
abbrev S18 : Shape := ⟨1, ![18]⟩
abbrev S1x4096 : Shape := ⟨2, ![1, 4096]⟩
abbrev S256 : Shape := ⟨1, ![256]⟩
abbrev S1x51 : Shape := ⟨2, ![1, 51]⟩
abbrev S256x1 : Shape := ⟨2, ![256, 1]⟩
abbrev S256x51 : Shape := ⟨2, ![256, 51]⟩
abbrev S1x51x1 : Shape := ⟨3, ![1, 51, 1]⟩
abbrev S256x1x4096 : Shape := ⟨3, ![256, 1, 4096]⟩
abbrev S256x51x4096 : Shape := ⟨3, ![256, 51, 4096]⟩
abbrev S256x1x1 : Shape := ⟨3, ![256, 1, 1]⟩
abbrev S1x1x4096 : Shape := ⟨3, ![1, 1, 4096]⟩

abbrev nBuf : Space → Nat
  | .hbm => 165
  | .vmem => 0
  | .smem => 0
  | _ => 0

abbrev hbmTy0_0 (i : Nat) : BufTy := match i % 128 with
  | 0 => ⟨S1x256x64x64, .f32⟩
  | 1 => ⟨S1x1x64x64, .i32⟩
  | 2 => ⟨S256x64x64, .f32⟩
  | 3 => ⟨S256x4096, .f32⟩
  | 4 => ⟨S64x64, .i32⟩
  | 5 => ⟨S4096, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S50, .f32⟩
  | 14 => ⟨S_, .f32⟩
  | 15 => ⟨S50, .f32⟩
  | 16 => ⟨S50, .f32⟩
  | 17 => ⟨S1, .f32⟩
  | 18 => ⟨S_, .f32⟩
  | 19 => ⟨S50, .f32⟩
  | 20 => ⟨S50, .f32⟩
  | 21 => ⟨S50, .f32⟩
  | 22 => ⟨S50, .f32⟩
  | 23 => ⟨S1, .f32⟩
  | 24 => ⟨S50, .f32⟩
  | 25 => ⟨S50, .f32⟩
  | 26 => ⟨S50, .f32⟩
  | 27 => ⟨S1, .f32⟩
  | 28 => ⟨S51, .f32⟩
  | 29 => ⟨S18, .i32⟩
  | 30 => ⟨S_, .i32⟩
  | 31 => ⟨S18, .i32⟩
  | 32 => ⟨S18, .i32⟩
  | 33 => ⟨S_, .f32⟩
  | 34 => ⟨S_, .f32⟩
  | 35 => ⟨S_, .f32⟩
  | 36 => ⟨S_, .i32⟩
  | 37 => ⟨S18, .i32⟩
  | 38 => ⟨S4096, .i32⟩
  | 39 => ⟨S256x4096, .f32⟩
  | 40 => ⟨S51, .f32⟩
  | 41 => ⟨S_, .f32⟩
  | 42 => ⟨S_, .i32⟩
  | 43 => ⟨S_, .f32⟩
  | 44 => ⟨S_, .f32⟩
  | 45 => ⟨S_, .i32⟩
  | 46 => ⟨S_, .i1⟩
  | 47 => ⟨S1, .i32⟩
  | 48 => ⟨S_, .i32⟩
  | 49 => ⟨S4096, .i32⟩
  | 50 => ⟨S4096, .i1⟩
  | 51 => ⟨S4096, .f32⟩
  | 52 => ⟨S_, .f32⟩
  | 53 => ⟨S_, .f32⟩
  | 54 => ⟨S_, .f32⟩
  | 55 => ⟨S_, .f32⟩
  | 56 => ⟨S1x4096, .f32⟩
  | 57 => ⟨S256x4096, .f32⟩
  | 58 => ⟨S256x4096, .f32⟩
  | 59 => ⟨S_, .f32⟩
  | 60 => ⟨S256, .f32⟩
  | 61 => ⟨S256, .f32⟩
  | 62 => ⟨S256, .f32⟩
  | 63 => ⟨S256x4096, .f32⟩
  | 64 => ⟨S1x4096, .f32⟩
  | 65 => ⟨S256x4096, .f32⟩
  | 66 => ⟨S256x4096, .f32⟩
  | 67 => ⟨S_, .f32⟩
  | 68 => ⟨S256, .f32⟩
  | 69 => ⟨S256, .f32⟩
  | 70 => ⟨S256, .f32⟩
  | 71 => ⟨S256, .f32⟩
  | 72 => ⟨S256, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S1x51, .f32⟩
  | 80 => ⟨S256x1, .f32⟩
  | 81 => ⟨S256x51, .f32⟩
  | 82 => ⟨S256x51, .f32⟩
  | 83 => ⟨S256x51, .f32⟩
  | 84 => ⟨S_, .f32⟩
  | 85 => ⟨S256x51, .f32⟩
  | 86 => ⟨S256x51, .f32⟩
  | 87 => ⟨S256x51, .f32⟩
  | 88 => ⟨S256x1, .f32⟩
  | 89 => ⟨S256x51, .f32⟩
  | 90 => ⟨S256x51, .f32⟩
  | 91 => ⟨S256x51, .f32⟩
  | 92 => ⟨S256, .f32⟩
  | 93 => ⟨S256, .f32⟩
  | 94 => ⟨S256, .f32⟩
  | 95 => ⟨S256x1, .f32⟩
  | 96 => ⟨S256x51, .f32⟩
  | 97 => ⟨S256x51, .f32⟩
  | 98 => ⟨S_, .f32⟩
  | 99 => ⟨S256, .f32⟩
  | 100 => ⟨S256x1, .f32⟩
  | 101 => ⟨S256x51, .f32⟩
  | 102 => ⟨S256x51, .f32⟩
  | 103 => ⟨S1x51x1, .f32⟩
  | 104 => ⟨S256x1x4096, .f32⟩
  | 105 => ⟨S256x51x4096, .f32⟩
  | 106 => ⟨S256x51x4096, .f32⟩
  | 107 => ⟨S256x51x4096, .f32⟩
  | 108 => ⟨S_, .f32⟩
  | 109 => ⟨S256x51x4096, .f32⟩
  | 110 => ⟨S256x51x4096, .f32⟩
  | 111 => ⟨S256x51x4096, .f32⟩
  | 112 => ⟨S256x1x1, .f32⟩
  | 113 => ⟨S256x51x4096, .f32⟩
  | 114 => ⟨S256x51x4096, .f32⟩
  | 115 => ⟨S256x51x4096, .f32⟩
  | 116 => ⟨S1x1x4096, .f32⟩
  | 117 => ⟨S256x51x4096, .f32⟩
  | 118 => ⟨S256x51x4096, .f32⟩
  | 119 => ⟨S_, .f32⟩
  | 120 => ⟨S256x51, .f32⟩
  | 121 => ⟨S256, .f32⟩
  | 122 => ⟨S256, .f32⟩
  | 123 => ⟨S256, .f32⟩
  | 124 => ⟨S256x1, .f32⟩
  | 125 => ⟨S256x51, .f32⟩
  | 126 => ⟨S256x51, .f32⟩
  | 127 => ⟨S_, .f32⟩
  | _ => ⟨S1x256x64x64, .f32⟩

abbrev hbmTy0_1 (i : Nat) : BufTy := match i % 128 with
  | 0 => ⟨S256, .f32⟩
  | 1 => ⟨S256x1, .f32⟩
  | 2 => ⟨S_, .f32⟩
  | 3 => ⟨S256x1, .f32⟩
  | 4 => ⟨S256x1, .f32⟩
  | 5 => ⟨S256x51, .f32⟩
  | 6 => ⟨S256x51, .f32⟩
  | 7 => ⟨S256x51, .f32⟩
  | 8 => ⟨S256x51, .f32⟩
  | 9 => ⟨S_, .f32⟩
  | 10 => ⟨S256x51, .f32⟩
  | 11 => ⟨S256x51, .i1⟩
  | 12 => ⟨S_, .f32⟩
  | 13 => ⟨S256x51, .f32⟩
  | 14 => ⟨S256x51, .f32⟩
  | 15 => ⟨S256x51, .f32⟩
  | 16 => ⟨S_, .f32⟩
  | 17 => ⟨S256x51, .f32⟩
  | 18 => ⟨S256x51, .f32⟩
  | 19 => ⟨S256x51, .f32⟩
  | 20 => ⟨S_, .f32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i32⟩
  | 33 => ⟨S_, .i32⟩
  | 34 => ⟨S_, .f32⟩
  | 35 => ⟨S_, .f32⟩
  | 36 => ⟨S_, .f32⟩
  | _ => ⟨S1x256x64x64, .f32⟩

abbrev hbmTy (i : Nat) : BufTy := match i / 128 with
  | 0 => hbmTy0_0 i
  | 1 => hbmTy0_1 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_cst_2 : Ref sig .tc := ⟨.hbm, 34, rfl⟩
abbrev main_cst_3 : Ref sig .tc := ⟨.hbm, 35, rfl⟩
abbrev main_c_4 : Ref sig .tc := ⟨.hbm, 36, rfl⟩
abbrev main_v8_0 : Ref sig .tc := ⟨.hbm, 37, rfl⟩
abbrev main_v8_1 : Ref sig .tc := ⟨.hbm, 38, rfl⟩
abbrev main_v8_2 : Ref sig .tc := ⟨.hbm, 39, rfl⟩
abbrev main_v8_3 : Ref sig .tc := ⟨.hbm, 40, rfl⟩
abbrev main_v8_4 : Ref sig .tc := ⟨.hbm, 41, rfl⟩
abbrev main_v8_5 : Ref sig .tc := ⟨.hbm, 42, rfl⟩
abbrev main_v8_6 : Ref sig .tc := ⟨.hbm, 43, rfl⟩
abbrev main_v8_7 : Ref sig .tc := ⟨.hbm, 44, rfl⟩
abbrev main_while0c_c_13 : Ref sig .tc := ⟨.hbm, 45, rfl⟩
abbrev main_while0c_v11 : Ref sig .tc := ⟨.hbm, 46, rfl⟩
abbrev main_while0b_call1_v0 : Ref sig .tc := ⟨.hbm, 47, rfl⟩
abbrev main_while0b_v11 : Ref sig .tc := ⟨.hbm, 48, rfl⟩
abbrev main_while0b_v12 : Ref sig .tc := ⟨.hbm, 49, rfl⟩
abbrev main_while0b_v13 : Ref sig .tc := ⟨.hbm, 50, rfl⟩
abbrev main_while0b_v14 : Ref sig .tc := ⟨.hbm, 51, rfl⟩
abbrev main_while0b_cst_13 : Ref sig .tc := ⟨.hbm, 52, rfl⟩
abbrev main_while0b_v15 : Ref sig .tc := ⟨.hbm, 53, rfl⟩
abbrev main_while0b_cst_14 : Ref sig .tc := ⟨.hbm, 54, rfl⟩
abbrev main_while0b_v16 : Ref sig .tc := ⟨.hbm, 55, rfl⟩
abbrev main_while0b_v17 : Ref sig .tc := ⟨.hbm, 56, rfl⟩
abbrev main_while0b_v18 : Ref sig .tc := ⟨.hbm, 57, rfl⟩
abbrev main_while0b_v19 : Ref sig .tc := ⟨.hbm, 58, rfl⟩
abbrev main_while0b_cst_15 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_cst_16 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_cst_17 : Ref sig .tc := ⟨.hbm, 73, rfl⟩
abbrev main_while0b_v32 : Ref sig .tc := ⟨.hbm, 74, rfl⟩
abbrev main_while0b_v33 : Ref sig .tc := ⟨.hbm, 75, rfl⟩
abbrev main_while0b_cst_18 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_v37 : Ref sig .tc := ⟨.hbm, 80, rfl⟩
abbrev main_while0b_v38 : Ref sig .tc := ⟨.hbm, 81, rfl⟩
abbrev main_while0b_v39 : Ref sig .tc := ⟨.hbm, 82, rfl⟩
abbrev main_while0b_v40 : Ref sig .tc := ⟨.hbm, 83, rfl⟩
abbrev main_while0b_cst_19 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_cst_20 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_cst_21 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_cst_22 : Ref sig .tc := ⟨.hbm, 119, rfl⟩
abbrev main_while0b_v73 : Ref sig .tc := ⟨.hbm, 120, rfl⟩
abbrev main_while0b_v74 : Ref sig .tc := ⟨.hbm, 121, rfl⟩
abbrev main_while0b_v75 : Ref sig .tc := ⟨.hbm, 122, rfl⟩
abbrev main_while0b_v76 : Ref sig .tc := ⟨.hbm, 123, rfl⟩
abbrev main_while0b_v77 : Ref sig .tc := ⟨.hbm, 124, rfl⟩
abbrev main_while0b_v78 : Ref sig .tc := ⟨.hbm, 125, rfl⟩
abbrev main_while0b_v79 : Ref sig .tc := ⟨.hbm, 126, rfl⟩
abbrev main_while0b_cst_23 : Ref sig .tc := ⟨.hbm, 127, rfl⟩
abbrev main_while0b_v80 : Ref sig .tc := ⟨.hbm, 128, rfl⟩
abbrev main_while0b_v81 : Ref sig .tc := ⟨.hbm, 129, rfl⟩
abbrev main_while0b_cst_24 : Ref sig .tc := ⟨.hbm, 130, rfl⟩
abbrev main_while0b_v82 : Ref sig .tc := ⟨.hbm, 131, rfl⟩
abbrev main_while0b_v83 : Ref sig .tc := ⟨.hbm, 132, rfl⟩
abbrev main_while0b_v84 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_cst_25 : Ref sig .tc := ⟨.hbm, 137, rfl⟩
abbrev main_while0b_v88 : Ref sig .tc := ⟨.hbm, 138, rfl⟩
abbrev main_while0b_v89 : Ref sig .tc := ⟨.hbm, 139, rfl⟩
abbrev main_while0b_cst_26 : Ref sig .tc := ⟨.hbm, 140, rfl⟩
abbrev main_while0b_v90 : Ref sig .tc := ⟨.hbm, 141, rfl⟩
abbrev main_while0b_v91 : Ref sig .tc := ⟨.hbm, 142, rfl⟩
abbrev main_while0b_v92 : Ref sig .tc := ⟨.hbm, 143, rfl⟩
abbrev main_while0b_cst_27 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_cst_28 : Ref sig .tc := ⟨.hbm, 148, rfl⟩
abbrev main_while0b_v96 : Ref sig .tc := ⟨.hbm, 149, rfl⟩
abbrev main_while0b_cst_29 : Ref sig .tc := ⟨.hbm, 150, rfl⟩
abbrev main_while0b_v97 : Ref sig .tc := ⟨.hbm, 151, rfl⟩
abbrev main_while0b_cst_30 : Ref sig .tc := ⟨.hbm, 152, rfl⟩
abbrev main_while0b_v98 : Ref sig .tc := ⟨.hbm, 153, rfl⟩
abbrev main_while0b_v99 : Ref sig .tc := ⟨.hbm, 154, rfl⟩
abbrev main_while0b_v100 : Ref sig .tc := ⟨.hbm, 155, rfl⟩
abbrev main_while0b_cst_31 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_c_32 : Ref sig .tc := ⟨.hbm, 160, rfl⟩
abbrev main_while0b_v104 : Ref sig .tc := ⟨.hbm, 161, rfl⟩
abbrev main_cst_5 : Ref sig .tc := ⟨.hbm, 162, rfl⟩
abbrev main_v9 : Ref sig .tc := ⟨.hbm, 163, rfl⟩
abbrev main_v10 : Ref sig .tc := ⟨.hbm, 164, rfl⟩

abbrev nD : Nat := 1
abbrev τ : Topo := Topo.v7x

variable {F : FTy → Type} [FloatOps F]

abbrev main_while0_count : Scf.Loop 32 := ⟨0#32, 18#32, 1#32⟩
-- ==== Proof.Claims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

open Idealize.ShloMosaic Idealize.SL.Sem

namespace Cert.Proof

/-- The kernel as written runs, leaves its arguments alone and every counter at zero. -/
theorem frame_p : Cert.quiescent_Kernel := fun m ρ _ => Cert.Kernel.Gen.frame m ρ

/-- The idealized kernel runs, leaves its arguments alone and every counter at zero. -/
theorem frame_pi : Cert.quiescent_KernelIdeal := fun m ρ _ => Cert.KernelIdeal.Gen.frame m ρ

/-- The reference runs, leaves its arguments alone and every counter at zero: it declares no counter. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Each named constant is, at the idealized kernel, the real number of its name. -/
theorem preserves : Cert.preserves_Kernel_KernelIdeal :=
  ⟨IdealRules.named_const.statement Cert.KernelIdeal.κ "half_log2e" .f32 0x3F38AA3B#32 _ rfl,
    IdealRules.named_const.statement Cert.KernelIdeal.κ "neg_log2e_25_2" .f32 0xC19044FE#32 _ rfl,
    IdealRules.named_const.statement Cert.KernelIdeal.κ "bin_step" .f32 0x3E4CCCCD#32 _ rfl,
    IdealRules.named_const.statement Cert.KernelIdeal.κ "bin_8" .f32 0xC059999A#32 _ rfl,
    IdealRules.named_const.statement Cert.KernelIdeal.κ "bin_16" .f32 0xBFE66666#32 _ rfl,
    IdealRules.named_const.statement Cert.KernelIdeal.κ "bin_24" .f32 0xBE4CCCCD#32 _ rfl,
    IdealRules.named_const.statement Cert.KernelIdeal.κ "bin_32" .f32 0x3FB33333#32 _ rfl,
    IdealRules.named_const.statement Cert.KernelIdeal.κ "bin_48" .f32 0x40933333#32 _ rfl,
    IdealRules.named_const.statement Cert.KernelIdeal.κ "two_pi_25" .f32 0x3E80ADFD#32 _ rfl,
    IdealRules.named_const.statement Cert.KernelIdeal.κ "inv_mean" .f32 0x38A0A0A1#32 _ rfl⟩

end Cert.Proof

end
-- ==== Proof.Math.lean ====
module

public import Idealize.ShloMosaic.Lib.Pipeline.ValueKit

@[expose] public section

noncomputable section

open Idealize.ShloMosaic

/-! The loss as a real number: what both programs compute of real features. -/

namespace Cert.Loss

/-- The small constant both programs keep denominators and variances above: the float nearest to 1e-12. -/
def eps : ℝ := 9223372 / 9223372036854775808

/-- Twice pi, as the float nearest to it. -/
def twoPi : ℝ := 13176795 / 2097152

/-- The centre of bin `k`: `-5 + k/5`. -/
def ctr (k : ℕ) : ℝ := -5 + k / 5

section

variable (X : Fin 256 → Fin 4096 → ℝ) (M : Fin 4096 → ℝ)

/-- How many pixels a mask keeps. -/
def cnt : ℝ := ∑ p, M p

/-- A feature's mean over the pixels of the mask. -/
def mu (f : Fin 256) : ℝ := (∑ p, X f p * M p) / max (cnt M) 1

/-- A feature's variance over the pixels of the mask, kept above `eps`. -/
def va (f : Fin 256) : ℝ := max ((∑ p, X f p * X f p * M p) / max (cnt M) 1 - mu X M f * mu X M f) eps

/-- The Gaussian of the mean and the variance at a bin, without its factor. -/
def tg (f : Fin 256) (b : Fin 51) : ℝ := Real.exp (-(1 / 2) * ((ctr b - mu X M f) * (ctr b - mu X M f)) / va X M f)

/-- The soft histogram at a bin, without its factor: a Gaussian about each pixel of the mask, summed. -/
def hh (f : Fin 256) (b : Fin 51) : ℝ :=
  ∑ p, Real.exp (-(25 / 2) * ((ctr b - X f p) * (ctr b - X f p)) / va X M f) * M p

/-- The soft histogram with the Gaussian's factor. -/
def sv (f : Fin 256) (b : Fin 51) : ℝ := hh X M f b / √(twoPi * (va X M f / 25))

/-- The histogram normalised over the bins, less the Gaussian normalised over the bins. -/
def df (f : Fin 256) (b : Fin 51) : ℝ := sv X M f b / max (∑ k, sv X M f k) eps - tg X M f b / ∑ k, tg X M f k

/-- The smooth absolute value. -/
def sl (d : ℝ) : ℝ := if |d| < 1 then 1 / 2 * d * d else |d| - 1 / 2

/-- One when the mask keeps a pixel, else zero. -/
def has : ℝ := if 0 < cnt M then 1 else 0

/-- A class's term of the loss: the mean over features and bins, or zero for a class of no pixels. -/
def term : ℝ := (∑ f, ∑ b, sl (df X M f b)) / 13056 * has M

end

/-- The mask of a class: one at its pixels, else zero. -/
def msk (L : Fin 4096 → BitVec 32) (c : ℕ) (p : Fin 4096) : ℝ := if L p = BitVec.ofNat 32 c then 1 else 0

/-- The loss: the terms of classes 1 to 18 over the number of those that have a pixel. -/
def loss (X : Fin 256 → Fin 4096 → ℝ) (L : Fin 4096 → BitVec 32) : ℝ :=
  (∑ k : Fin 18, term X (msk L (k + 1))) / (∑ k : Fin 18, has (msk L (k + 1)) + eps)

theorem eps_pos : 0 < eps := by norm_num [eps]

theorem twoPi_pos : 0 < twoPi := by norm_num [twoPi]

theorem va_pos (X : Fin 256 → Fin 4096 → ℝ) (M : Fin 4096 → ℝ) (f : Fin 256) : 0 < va X M f :=
  lt_of_lt_of_le eps_pos (le_max_right _ _)

theorem tg_sum_pos (X : Fin 256 → Fin 4096 → ℝ) (M : Fin 4096 → ℝ) (f : Fin 256) : 0 < ∑ k, tg X M f k :=
  Finset.sum_pos (fun _ _ => Real.exp_pos _) Finset.univ_nonempty

theorem cnt_max_pos (M : Fin 4096 → ℝ) : 0 < max (cnt M) 1 := lt_of_lt_of_le one_pos (le_max_right _ _)

theorem sv_max_pos (X : Fin 256 → Fin 4096 → ℝ) (M : Fin 4096 → ℝ) (f : Fin 256) : 0 < max (∑ k, sv X M f k) eps :=
  lt_of_lt_of_le eps_pos (le_max_right _ _)

theorem has_nonneg (M : Fin 4096 → ℝ) : 0 ≤ has M := by
  unfold has; split <;> norm_num

theorem root_pos (X : Fin 256 → Fin 4096 → ℝ) (M : Fin 4096 → ℝ) (f : Fin 256) : 0 < √(twoPi * (va X M f / 25)) :=
  Real.sqrt_pos.mpr (mul_pos twoPi_pos (div_pos (va_pos X M f) (by norm_num)))

/-! ## Extended reals that are real -/

theorem coe_sum {ι : Type} [Fintype ι] (f : ι → ℝ) : ∑ i, ((f i : ℝ) : EReal) = ((∑ i, f i : ℝ) : EReal) := by
  induction (Finset.univ : Finset ι) using Finset.cons_induction with
  | empty => simp
  | cons a s h ih => rw [Finset.sum_cons, Finset.sum_cons, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A quotient of real numbers by one that is not zero. -/
theorem coe_div (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- The absolute value as the larger of a number and its negation. -/
theorem coe_abs (a : ℝ) : max (a : EReal) (-(a : EReal)) = ((|a| : ℝ) : EReal) := by
  rw [← EReal.coe_neg, coe_max]; rfl

theorem ofBits_eps : Ideal.ofBits .f32 0x2B8CBCCC#32 = ((eps : ℝ) : EReal) := by
  simp [Ideal.ofBits, Ideal.ieee]; rw [← EReal.coe_mul]; congr 1; norm_num [eps]

theorem ofBits_half : Ideal.ofBits .f32 0x3F000000#32 = ((1 / 2 : ℝ) : EReal) := by
  simp [Ideal.ofBits, Ideal.ieee]; rw [← EReal.coe_mul]; congr 1; norm_num

theorem ofBits_neg_half : Ideal.ofBits .f32 0xBF000000#32 = ((-(1 / 2) : ℝ) : EReal) := by
  simp [Ideal.ofBits, Ideal.ieee]; rw [← EReal.coe_mul]; congr 1; norm_num

theorem ofBits_five : Ideal.ofBits .f32 0x40A00000#32 = ((5 : ℝ) : EReal) := by
  simp [Ideal.ofBits, Ideal.ieee]; rw [← EReal.coe_mul]; congr 1; norm_num

theorem ofBits_one : Ideal.ofBits .f32 0x3F800000#32 = ((1 : ℝ) : EReal) := by
  simp [Ideal.ofBits, Ideal.ieee]; rw [← EReal.coe_mul]; norm_num

theorem ofBits_50 : Ideal.ofBits .f32 0x42480000#32 = ((50 : ℝ) : EReal) := by
  simp [Ideal.ofBits, Ideal.ieee]; rw [← EReal.coe_mul]; congr 1; norm_num

theorem ofBits_25 : Ideal.ofBits .f32 0x41C80000#32 = ((25 : ℝ) : EReal) := by
  simp [Ideal.ofBits, Ideal.ieee]; rw [← EReal.coe_mul]; congr 1; norm_num

theorem ofBits_13056 : Ideal.ofBits .f32 0x464C0000#32 = ((13056 : ℝ) : EReal) := by
  simp [Ideal.ofBits, Ideal.ieee]; rw [← EReal.coe_mul]; congr 1; norm_num

theorem ofBits_twoPi : Ideal.ofBits .f32 0x40C90FDB#32 = ((twoPi : ℝ) : EReal) := by
  simp [Ideal.ofBits, Ideal.ieee]; rw [← EReal.coe_mul]; congr 1; norm_num [twoPi]

/-- The float -5. -/
theorem ofBits_neg_five : Ideal.ofBits .f32 0xC0A00000#32 = ((-5 : ℝ) : EReal) := by
  simp [Ideal.ofBits, Ideal.ieee]; rw [← EReal.coe_mul]; congr 1; norm_num

/-- A word counted up from zero, as a float, is the number it counts. -/
theorem sitofp_ofNat (k : ℕ) (h : k < 2 ^ 31) : FloatOps.sitofp (F := Ideal) .f32 (BitVec.ofNat 32 k) = ((k : ℝ) : EReal) := by
  have e : (BitVec.ofNat 32 k).toInt = (k : ℤ) := by
    rw [BitVec.toInt_eq_toNat_cond, BitVec.toNat_ofNat, Nat.mod_eq_of_lt (by omega)]
    rw [if_pos (by omega)]
  change (((BitVec.ofNat 32 k).toInt : ℝ) : EReal) = _
  rw [e]; norm_cast

theorem rsqrt_coe {r : ℝ} (h : 0 < r) : Ideal.rsqrt (r : EReal) = ((1 / √r : ℝ) : EReal) := by
  show (if r < 0 then (⊥ : EReal) else if r = 0 then ⊤ else ((√r)⁻¹ : ℝ)) = _
  rw [if_neg (not_lt.mpr h.le), if_neg h.ne', one_div]

theorem sqrt_coe {r : ℝ} (h : 0 ≤ r) : Ideal.sqrt (r : EReal) = ((√r : ℝ) : EReal) := by
  show (if r < 0 then (⊥ : EReal) else ((√r : ℝ) : EReal)) = _
  rw [if_neg (not_lt.mpr h)]

/-- A power of two with a factor `1/log 2` in the exponent is a power of `e`. -/
theorem exp2_coe {r : ℝ} (t : ℝ) (h : r = t * (Real.log 2)⁻¹) : Ideal.exp2 (r : EReal) = ((Real.exp t : ℝ) : EReal) := by
  show ((Real.rpow 2 r : ℝ) : EReal) = _
  congr 1
  show (2 : ℝ) ^ r = _
  rw [Real.rpow_def_of_pos two_pos, h]
  congr 1
  have : Real.log 2 ≠ 0 := (Real.log_pos one_lt_two).ne'
  field_simp

/-- The smooth absolute value as both programs spell it, at a real difference. -/
theorem sl_coe (d : ℝ) : (if max (d : EReal) (-(d : EReal)) < 1 then ((1 / 2 : ℝ) : EReal) * d * d
      else max (d : EReal) (-(d : EReal)) - ((1 / 2 : ℝ) : EReal)) = ((sl d : ℝ) : EReal) := by
  rw [coe_abs, sl]
  have e : ((|d| : ℝ) : EReal) < 1 ↔ |d| < 1 := by exact_mod_cast Iff.rfl
  by_cases h : |d| < 1
  · rw [if_pos (e.mpr h), if_pos h, ← EReal.coe_mul, ← EReal.coe_mul]
  · rw [if_neg (mt e.mp h), if_neg h, ← EReal.coe_sub]

end Cert.Loss

end
-- ==== Proof.Hist.lean ====
module

public import proofs.«01_k».proof.Proof.Gen.KernelIdeal.Frame
public import Idealize.ShloMosaic.Lib.Pipeline.ValueKit
public import proofs.«01_k».proof.Proof.Math

@[expose] public section

set_option maxRecDepth 16384

noncomputable section

open Idealize.ShloMosaic Idealize.ShloMosaic.TcCoe Idealize.SL.Sem

namespace Cert.KernelIdeal.Value

open Cert.KernelIdeal Cert.KernelIdeal.Gen
open Cert.Loss (sitofp_ofNat ofBits_neg_five)

/-- Bin `k` of the histogram, `-5 + k/5`. -/
def bin (k : ℕ) : EReal := ((-5 + k / 5 : ℝ) : EReal)

/-- The histogram's value at a bin centre `b`, a feature and a class: the sum over the pixels of a power of two, taken where
    the pixel is of the class. -/
def hsum (X A : FVec Ideal S1x256x4096 .bf16) (O : FVec Ideal S32x4096 .bf16) (b : EReal) (f : Fin 256) (c : Fin 32) : EReal :=
  ∑ p : Fin 4096, FloatOps.exp2 (F := Ideal) (φ := .bf16) ((b - X (ix3 0 f p)) * (b - X (ix3 0 f p)) * A (ix3 0 f p)) * O (ix2 c p)

/-- The offsets of a block's eight bins: `j/5`. -/
theorem pay9_at (j : Fin 8) : k0_pay9 (F := Ideal) (ix3 j 0 0) = ((j / 5 : ℝ) : EReal) := by
  pointwise [k0_pay9]
  rw [sitofp_ofNat j (by omega)]
  change ((j : ℝ) : EReal) * ((1 / 5 : ℝ) : EReal) = _
  rw [← EReal.coe_mul]; congr 1; ring

/-- The float 3. -/
theorem ofBits_three : Ideal.ofBits .f32 0x40400000#32 = ((3 : ℝ) : EReal) := by
  simp [Ideal.ofBits, Ideal.ieee]; rw [← EReal.coe_mul]; congr 1; norm_num

/-- A bin centre is the block's first bin plus an offset of the block. -/
theorem bin_add (b : ℝ) (k : ℕ) (j : Fin 8) (h : b = -5 + k / 5) : (b : EReal) + k0_pay9 (F := Ideal) (ix3 j 0 0) = bin (k + j) := by
  rw [pay9_at, ← EReal.coe_add, bin, h]; congr 1; push_cast; ring

/-- A choice whose two branches have one value has it. -/
theorem dite_const {p : Prop} [Decidable p] {v : EReal} {a : p → EReal} {b : ¬p → EReal} (h1 : ∀ h, a h = v) (h2 : ∀ h, b h = v) :
    dite p a b = v := by
  by_cases h : p
  · rw [dif_pos h]; exact h1 h
  · rw [dif_neg h]; exact h2 h

section

variable (X A : FVec Ideal S1x256x4096 .bf16) (O : FVec Ideal S32x4096 .bf16) (j : Fin 8) (f : Fin 256) (c : Fin 32)

set_option maxHeartbeats 1600000 in
/-- The block of eight bins from bin 0: four runs of 64 features, each a product of matrices, set side by side. -/
theorem block0_at : k0_pay14 X A O k0_pay13 (ix3 j f c) = hsum X A O (bin (0 + j)) f c := by
  rw [← bin_add (-5 : ℝ) 0 j (by norm_num)]
  pointwise [k0_pay14, k0_pay13, hsum]
  rw [ofBits_neg_five]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 8: four runs of 64 features, each a product of matrices, set side by side. -/
theorem block8_at : k0_pay16 (k0_pay15 k0_pay9 X A O) (ix3 j f c) = hsum X A O (bin (8 + j)) f c := by
  rw [← bin_add (-17 / 5 : ℝ) 8 j (by norm_num)]
  pointwise [k0_pay16, k0_pay15, hsum]
  rw [show Named.named (F := Ideal) κ "bin_8" (φ := .f32) 0xC059999A#32 = (((-17 / 5 : ℝ) : ℝ) : EReal) from rfl]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 16: four runs of 64 features, each a product of matrices, set side by side. -/
theorem block16_at : k0_pay22 (k0_pay18 k0_pay9 X A O) (k0_pay19 k0_pay9 X A O) (k0_pay20 k0_pay9 X A O) (k0_pay21 k0_pay9 X A O) (ix3 j f c) = hsum X A O (bin (16 + j)) f c := by
  rw [← bin_add (-9 / 5 : ℝ) 16 j (by norm_num)]
  pointwise [k0_pay22, k0_pay17, k0_pay18, k0_pay19, k0_pay20, k0_pay21, hsum]
  rw [show Named.named (F := Ideal) κ "bin_16" (φ := .f32) 0xBFE66666#32 = (((-9 / 5 : ℝ) : ℝ) : EReal) from rfl]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 24: four runs of 64 features, each a product of matrices, set side by side. -/
theorem block24_at : k0_pay28 O (k0_pay24 k0_pay9 X A O) (k0_pay25 k0_pay9 X A O) (k0_pay26 k0_pay9 X A O) (k0_pay27 k0_pay9 X A) (ix3 j f c) = hsum X A O (bin (24 + j)) f c := by
  rw [← bin_add (-1 / 5 : ℝ) 24 j (by norm_num)]
  pointwise [k0_pay28, k0_pay23, k0_pay24, k0_pay25, k0_pay26, k0_pay27, hsum]
  rw [show Named.named (F := Ideal) κ "bin_24" (φ := .f32) 0xBE4CCCCD#32 = (((-1 / 5 : ℝ) : ℝ) : EReal) from rfl]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 32: four runs of 64 features, each a product of matrices, set side by side. -/
theorem block32_at : k0_pay35 O (k0_pay30 k0_pay9 X A O) (k0_pay31 k0_pay9 X A O) (k0_pay32 k0_pay9 X A O) (k0_pay33 A) (k0_pay34 k0_pay9 X) (ix3 j f c) = hsum X A O (bin (32 + j)) f c := by
  rw [← bin_add (7 / 5 : ℝ) 32 j (by norm_num)]
  pointwise [k0_pay35, k0_pay29, k0_pay30, k0_pay31, k0_pay32, k0_pay33, k0_pay34, hsum]
  rw [show Named.named (F := Ideal) κ "bin_32" (φ := .f32) 0x3FB33333#32 = (((7 / 5 : ℝ) : ℝ) : EReal) from rfl]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 40: four runs of 64 features, each a product of matrices, set side by side. -/
theorem block40_at : k0_pay41 A O (k0_pay36 k0_pay9) (k0_pay37 k0_pay9 X A O) (k0_pay38 k0_pay9 X A O) (k0_pay39 k0_pay9 X A O) (k0_pay40 X) (ix3 j f c) = hsum X A O (bin (40 + j)) f c := by
  rw [← bin_add (3 : ℝ) 40 j (by norm_num)]
  pointwise [k0_pay41, k0_pay36, k0_pay37, k0_pay38, k0_pay39, k0_pay40, hsum]
  rw [ofBits_three]
  refine dite_const (fun h1 => ?_) fun h1 => dite_const (fun h2 => ?_) fun h2 => dite_const (fun h3 => ?_) fun h3 => ?_
  all_goals blk_point []
  all_goals exact congrArg _ (by omega)

set_option maxHeartbeats 1600000 in
/-- The block of eight bins from bin 48: four runs of 64 features, each a product of matrices, set side by side. -/
theorem block48_at : k0_pay46 X A O (k0_pay42 k0_pay9) (k0_pay43 k0_pay9 X A O) (k0_pay44 k0_pay9 X A O) (k0_pay45 k0_pay9 X A) (ix3 j f c) = hsum X A O (bin (48 + j)) f c := by
  rw [← bin_add (23 / 5 : ℝ) 48 j (by norm_num)]
  pointwise [k0_pay46, k0_pay42, k0_pay43, k0_pay44, k0_pay45, hsum]
  rw [show Named.named (F := Ideal) κ "bin_48" (φ := .f32) 0x40933333#32 = (((23 / 5 : ℝ) : ℝ) : EReal) from rfl]
  refine dite_const (fun h1 => ?_) fun h1 => dite_const (fun h2 => ?_) fun h2 => dite_const (fun h3 => ?_) fun h3 => ?_
  all_goals blk_point []
  all_goals exact congrArg _ (by omega)

end

end Cert.KernelIdeal.Value

end
-- ==== Proof.KernelRun.lean ====
module

public import proofs.«01_k».proof.Proof.Gen.KernelIdeal.Frame
public import Idealize.ShloMosaic.Lib.Pipeline.ValueKit
public import Idealize.ShloMosaic.Lib.Pipeline.ReadBack
public import proofs.«01_k».proof.Proof.Hist
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Every window's block index at the launch's one grid point is zero. -/
theorem idx : ∀ t : Fin cfg0.N, win0_0.index t = ![0, 0] ∧ win0_1.index t = ![0, 0] ∧ win0_2.index t = ![0, 0] :=
  (by decide +kernel : ∀ t : Fin grid0.N, _)

/-- The histogram of the launch: 51 bins of every feature and class. -/
def hist (X : FVec Ideal S256x4096 .f32) (L : IVec S1x4096 32) : FVec Ideal S51x256x32 .f32 :=
  fun y => hsum (k0_pay10 X) (k0_pay11 X L) (k0_pay12 L) (bin (y 0)) (y 1) (y 2)

/-- What the launch stores, of the features and the labels. -/
def outv (X : FVec Ideal S256x4096 .f32) (L : IVec S1x4096 32) : FVec Ideal S1x1 .f32 :=
  k0_pay51 (k0_pay4 L) (k0_pay47 (k0_pay6 X L) (k0_pay8 X L)) (k0_pay48 (k0_pay6 X L) (k0_pay8 X L)) (hist X L)
    (k0_pay49 (k0_pay7 X L)) (k0_pay50 (k0_pay7 X L) (hist X L))

/-- A block's payload, where its entries are those of a histogram from bin `k`, is the histogram at the block's cells. -/
theorem piece_of (X A : FVec Ideal S1x256x4096 .bf16) (O : FVec Ideal S32x4096 .bf16) (k : ℕ) (P : FVec Ideal S8x256x32 .f32)
    (h : ∀ (j : Fin 8) (f : Fin 256) (c : Fin 32), P (ix3 j f c) = hsum X A O (bin (k + j)) f c)
    (inb : ∀ a, (![k, 0, 0] : Fin 3 → ℕ) a + S8x256x32.size a ≤ S56x256x32.size a) (x : S8x256x32.Idx) :
    P x = hsum X A O (bin ((Rect.unit (s := S56x256x32) ![k, 0, 0] S8x256x32.size inb).emb x 0))
      ((Rect.unit (s := S56x256x32) ![k, 0, 0] S8x256x32.size inb).emb x 1) ((Rect.unit (s := S56x256x32) ![k, 0, 0] S8x256x32.size inb).emb x 2) := by
  have e : x = ix3 (x 0) (x 1) (x 2) := by funext a; fin_cases a <;> rfl
  have e0 : ((Rect.unit (s := S56x256x32) ![k, 0, 0] S8x256x32.size inb).emb x 0).val = k + (x 0).val := by
    show k + 1 * (x 0).val = _; omega
  have e1 : (Rect.unit (s := S56x256x32) ![k, 0, 0] S8x256x32.size inb).emb x 1 = x 1 := by
    apply Fin.ext; show 0 + 1 * (x 1).val = _; omega
  have e2 : (Rect.unit (s := S56x256x32) ![k, 0, 0] S8x256x32.size inb).emb x 2 = x 2 := by
    apply Fin.ext; show 0 + 1 * (x 2).val = _; omega
  rw [e0, e1, e2]
  exact (congrArg P e).trans (h (x 0) (x 1) (x 2))

/-- The launch's result array after the last grid point, of the blocks the point reads. -/
theorem final (c : Dev nD) : (dats m 0 c).arrAt 2 (cfgs 0).N = outv (iblk m c 0 t0_0) (iblk m c 1 t0_0) := by
  refine (dats m 0 c).arrAt_eq_of_after_last 2 t0_0 (by decide +kernel) _ fun j => ?_
  blk_simp
  rw [after0_2]
  unfold outsAt0
  frame_out
  simp only [read_unread_whole]
  generalize iblk m c 0 t0_0 = X
  generalize iblk m c 1 t0_0 = L
  generalize hH : View.readCov (Val := Elt Ideal) _ _ _ = H
  have e : H = hist X L := by
    rw [← hH, View.readCov_eq_canon']
    funext y
    refine (View.canon_apply_of_pieces (fun z : S56x256x32.Idx => hsum (k0_pay10 X) (k0_pay11 X L) (k0_pay12 L) (bin (z 0)) (z 1) (z 2)) _ ?_ _ (View.cover_of_tiled_head _ _ _ (by rfl) _)).trans ?_
    · intro p hp
      simp only [List.mem_cons, List.not_mem_nil, or_false] at hp
      rcases hp with rfl | rfl | rfl | rfl | rfl | rfl | rfl
      · exact piece_of _ _ _ 48 _ (block48_at _ _ _) inb_S56x256x32_S8x256x32_48_0_0
      · exact piece_of _ _ _ 40 _ (block40_at _ _ _) inb_S56x256x32_S8x256x32_40_0_0
      · exact piece_of _ _ _ 32 _ (block32_at _ _ _) inb_S56x256x32_S8x256x32_32_0_0
      · exact piece_of _ _ _ 24 _ (block24_at _ _ _) inb_S56x256x32_S8x256x32_24_0_0
      · exact piece_of _ _ _ 16 _ (block16_at _ _ _) inb_S56x256x32_S8x256x32_16_0_0
      · exact piece_of _ _ _ 8 _ (block8_at _ _ _) inb_S56x256x32_S8x256x32_8_0_0
      · exact piece_of _ _ _ 0 _ (block0_at _ _ _) inb_S56x256x32_S8x256x32_0_0_0
    · unfold hist
      congr 2
      · show 0 + 1 * (y 0).val = (y 0).val
        omega
      · apply Fin.ext
        show 0 + 1 * (y 1).val = (y 1).val
        omega
      · apply Fin.ext
        show 0 + 1 * (y 2).val = (y 2).val
        omega
  rw [e]
  rfl

variable (ρ : Dev nD → PrngReg)

/-- The features, row by feature, pixel by column. -/
def feat (c : Dev nD) : FVec Ideal S256x4096 .f32 :=
  shapeCast S256x4096 (shapeCast S256x64x64 (m ((c.tc : Thread nD τ).loc main_arg0) : FVec Ideal S1x256x64x64 .f32) shapeCasts_S1x256x64x64_S256x64x64) shapeCasts_S256x64x64_S256x4096

/-- The labels, one per pixel. -/
def labs (c : Dev nD) : IVec S1x4096 32 :=
  shapeCast S1x4096 (m ((c.tc : Thread nD τ).loc main_arg1) : IVec S1x1x64x64 32) shapeCasts_S1x1x64x64_S1x4096

/-- The launch reads the features whole. -/
theorem in0 (c : Dev nD) : iblk m c 0 t0_0 = feat m c := by
  have e : V m c main_v1 = feat m c := by
    show StableHlo.after hostOps0 _ _ = _
    after_results
    rfl
  funext y
  blk_simp [iblk]
  refine Eq.trans (congrFun e _) (congrArg (feat m c) ?_)
  blk_ext [idx t0_0]

/-- The launch reads the labels whole. -/
theorem in1 (c : Dev nD) : iblk m c 1 t0_0 = labs m c := by
  have e : V m c main_v2 = labs m c := by
    show StableHlo.after hostOps0 _ _ = _
    after_results
    rfl
  funext y
  blk_simp [iblk]
  refine Eq.trans (congrFun e _) (congrArg (labs m c) ?_)
  blk_ext [idx t0_0]

/-- THE KERNEL'S RUN: the result is what the launch stores of the features and the labels, and the arguments are unchanged. -/
theorem run : θ_run defs (onTc (τ := τ) (main (F := Ideal))) ⟨m, fun _ => 0, ρ⟩ (fun r => ∀ c : Dev nD,
      r.2.mem ((c.tc : Thread nD τ).loc main_v4) = (fun _ => outv (feat m c) (labs m c) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Gen.unchanged m ρ & Gen.run_main m ρ
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v3) = outv (feat m c) (labs m c) := by
    rw [← in0, ← in1, ← final]
    exact Pipeline.withArrays_arr (cfgs 0).spec (by decide) c (V0 m c) (fun w => (dats m 0 c).arrAt w (cfgs 0).N) 2
  rw [e]
  funext i
  show outv (feat m c) (labs m c) _ = _
  refine congrArg _ ?_
  funext a; fin_cases a <;> exact Subsingleton.elim (α := Fin 1) _ _

end Cert.KernelIdeal.Value

end
-- ==== Proof.KernelValue.lean ====
module

public import proofs.«01_k».proof.Proof.KernelRun
public import proofs.«01_k».proof.Proof.Math

@[expose] public section

set_option maxRecDepth 16384

noncomputable section

open Idealize.ShloMosaic Idealize.ShloMosaic.TcCoe Idealize.SL.Sem

namespace Cert.KernelIdeal.Value

open Cert.KernelIdeal Cert.KernelIdeal.Gen Cert.Loss

variable (x : FVec Ideal S256x4096 .f32) (l : IVec S1x4096 32)

/-- The labels, pixel by pixel. -/
abbrev lab (p : Fin 4096) : BitVec 32 := l (ix2 0 p)

/-- The one-hot matrix is the classes' masks. -/
theorem pay2_at (c : Fin 32) (p : Fin 4096) : k0_pay2 (F := Ideal) l (ix2 c p) = ((msk (lab l) c p : ℝ) : EReal) := by
  pointwise [k0_pay2]
  rw [msk]
  by_cases h : lab l p = BitVec.ofNat 32 c
  · rw [if_pos h, show l (ix2 0 p) = BitVec.ofNat 32 c from h,
      show BitVec.setWidth 32 (IntOp.cmpi .eq (BitVec.ofNat 32 c) (BitVec.ofNat 32 c)) = BitVec.ofNat 32 1 by simp [IntOp.cmpi], sitofp_ofNat 1 (by norm_num)]
    simp
  · rw [if_neg h, show BitVec.setWidth 32 (IntOp.cmpi .eq (BitVec.ofNat 32 c) (l (ix2 0 p))) = BitVec.ofNat 32 0 by
      simp [IntOp.cmpi, show (BitVec.ofNat 32 c == l (ix2 0 p)) = false from beq_eq_false_iff_ne.mpr fun e => h e.symm], sitofp_ofNat 0 (by norm_num)]
    simp

/-- The counts. -/
theorem pay4_at (c : Fin 32) : k0_pay4 (F := Ideal) l (ix2 0 c) = ((cnt (msk (lab l) c) : ℝ) : EReal) := by
  pointwise [k0_pay4]
  simp only [pay2_at, coe_sum]
  rfl

/-- The counts' reciprocals, of a count kept at least one. -/
theorem pay5_at (c : Fin 32) : k0_pay5 (F := Ideal) l (ix2 0 c) = ((1 / max (cnt (msk (lab l) c)) 1 : ℝ) : EReal) := by
  pointwise [k0_pay5]
  rw [pay4_at, ← EReal.coe_one, coe_max, coe_div _ (cnt_max_pos _).ne']

variable (X : Fin 256 → Fin 4096 → ℝ) (hx : ∀ f p, x (ix2 f p) = ((X f p : ℝ) : EReal))
include hx

/-- The features as they are read. -/
theorem pay1_at (f : Fin 256) (p : Fin 4096) : k0_pay1 (F := Ideal) x (ix2 f p) = ((X f p : ℝ) : EReal) := by
  pointwise [k0_pay1]
  exact hx f p

/-- The sums of the features over each class. -/
theorem pay3_low (f : Fin 256) (c : Fin 32) :
    k0_pay3 (F := Ideal) x l (ix2 ⟨f, by omega⟩ c) = ((∑ p, X f p * msk (lab l) c p : ℝ) : EReal) := by
  pointwise [k0_pay3]
  simp only [pay1_at x X hx, pay2_at, ← EReal.coe_mul, coe_sum]

/-- The sums of the features' squares over each class. -/
theorem pay3_high (f : Fin 256) (c : Fin 32) :
    k0_pay3 (F := Ideal) x l (ix2 ⟨256 + f, by omega⟩ c) = ((∑ p, X f p * X f p * msk (lab l) c p : ℝ) : EReal) := by
  pointwise [k0_pay3]
  simp only [pay1_at x X hx, pay2_at, ← EReal.coe_mul, coe_sum]

/-- The means. -/
theorem pay6_at (f : Fin 256) (c : Fin 32) : k0_pay6 (F := Ideal) x l (ix2 f c) = ((mu X (msk (lab l) c) f : ℝ) : EReal) := by
  pointwise [k0_pay6]
  rw [pay3_low x l X hx, pay5_at, ← EReal.coe_mul, mul_one_div]
  rfl

/-- The variances. -/
theorem pay7_at (f : Fin 256) (c : Fin 32) : k0_pay7 (F := Ideal) x l (ix2 f c) = ((va X (msk (lab l) c) f : ℝ) : EReal) := by
  pointwise [k0_pay7]
  rw [pay3_high x l X hx, pay5_at, pay6_at x l X hx, ofBits_eps, ← EReal.coe_mul, ← EReal.coe_mul, ← EReal.coe_sub, coe_max, mul_one_div]
  rfl

/-- The exponent's factor of the Gaussian of the mean. -/
theorem pay8_at (f : Fin 256) (c : Fin 32) :
    k0_pay8 (F := Ideal) x l (ix2 f c) = ((1 / 2 * (Real.log 2)⁻¹ / va X (msk (lab l) c) f : ℝ) : EReal) := by
  pointwise [k0_pay8]
  rw [pay7_at x l X hx]
  exact coe_div (1 / 2 * (Real.log 2)⁻¹) (va_pos _ _ _).ne'

/-- The exponent's factor of a pixel's Gaussian: over the variance of the pixel's class, where it has one. -/
theorem pay11_at (f : Fin 256) (p : Fin 4096) : k0_pay11 (F := Ideal) x l (ix3 0 f p)
    = ((∑ c : Fin 32, -25 / 2 * (Real.log 2)⁻¹ / va X (msk (lab l) c) f * msk (lab l) c p : ℝ) : EReal) := by
  pointwise [k0_pay11]
  rw [← coe_sum]
  refine Finset.sum_congr rfl fun c _ => ?_
  rw [pay7_at x l X hx, pay2_at, EReal.coe_mul]
  exact congrArg (· * _) (coe_div (-25 / 2 * (Real.log 2)⁻¹) (va_pos _ _ _).ne')

omit hx in
/-- A pixel of a class is of no other of the 32. -/
theorem sum_msk (L : Fin 4096 → BitVec 32) (g : Fin 32 → ℝ) (c : Fin 32) (p : Fin 4096) (h : L p = BitVec.ofNat 32 c) :
    ∑ d : Fin 32, g d * msk L d p = g c := by
  rw [Finset.sum_eq_single c]
  · rw [msk, if_pos h, mul_one]
  · intro d _ hd
    rw [msk, if_neg, mul_zero]
    intro e
    apply hd
    apply Fin.ext
    have := congrArg BitVec.toNat (e.symm.trans h)
    rw [BitVec.toNat_ofNat, BitVec.toNat_ofNat] at this
    omega
  · intro h; exact absurd (Finset.mem_univ c) h

/-- The histogram is the real one. -/
theorem hist_at (b : Fin 51) (f : Fin 256) (c : Fin 32) : hist x l (ix3 b f c) = ((hh X (msk (lab l) c) f b : ℝ) : EReal) := by
  unfold hist hsum hh
  rw [← coe_sum]
  refine Finset.sum_congr rfl fun p _ => ?_
  have e10 : k0_pay10 (F := Ideal) x (ix3 0 f p) = ((X f p : ℝ) : EReal) := by
    pointwise [k0_pay10]
    exact pay1_at x X hx f p
  have e12 : k0_pay12 (F := Ideal) l (ix2 c p) = ((msk (lab l) c p : ℝ) : EReal) := by
    pointwise [k0_pay12]
    exact pay2_at l c p
  show FloatOps.exp2 (F := Ideal) (φ := .bf16) ((bin b - k0_pay10 (F := Ideal) x (ix3 0 f p)) * (bin b - k0_pay10 (F := Ideal) x (ix3 0 f p))
    * k0_pay11 (F := Ideal) x l (ix3 0 f p)) * k0_pay12 (F := Ideal) l (ix2 c p) = _
  rw [e10, e12, pay11_at x l X hx, show bin b = ((ctr b : ℝ) : EReal) from rfl, ← EReal.coe_sub, ← EReal.coe_mul, ← EReal.coe_mul]
  by_cases h : lab l p = BitVec.ofNat 32 c
  · rw [sum_msk _ (fun c => -25 / 2 * (Real.log 2)⁻¹ / va X (msk (lab l) c) f) c p h, EReal.coe_mul]
    refine congrArg (· * _) (exp2_coe _ ?_)
    ring
  · rw [show msk (lab l) c p = 0 from if_neg h, mul_zero, EReal.coe_zero, mul_zero]

/-- The Gaussian of the mean at a bin. -/
theorem pay47_at (b : Fin 51) (f : Fin 256) (c : Fin 32) :
    k0_pay47 (F := Ideal) (k0_pay6 x l) (k0_pay8 x l) (ix3 b f c) = ((tg X (msk (lab l) c) f b : ℝ) : EReal) := by
  have eb : FloatOps.sitofp (F := Ideal) .f32 (BitVec.ofNat 32 b) * Named.named (F := Ideal) κ "bin_step" (φ := .f32) 0x3E4CCCCD#32 - Ideal.ofBits .f32 0x40A00000#32
      = ((ctr b : ℝ) : EReal) := by
    rw [sitofp_ofNat b (by omega), ofBits_five]
    show ((b : ℝ) : EReal) * ((1 / 5 : ℝ) : EReal) - _ = _
    rw [← EReal.coe_mul, ← EReal.coe_sub, ctr]
    congr 1; push_cast; ring
  pointwise [k0_pay47]
  rw [eb, pay6_at x l X hx, pay8_at x l X hx, ← EReal.coe_zero, ← EReal.coe_sub, ← EReal.coe_mul, ← EReal.coe_sub, ← EReal.coe_mul]
  refine exp2_coe _ ?_
  ring

/-- Its sum over the bins. -/
theorem pay48_at (f : Fin 256) (c : Fin 32) :
    k0_pay48 (F := Ideal) (k0_pay6 x l) (k0_pay8 x l) (ix2 f c) = ((∑ b, tg X (msk (lab l) c) f b : ℝ) : EReal) := by
  pointwise [k0_pay48]
  simp only [pay47_at x l X hx, coe_sum]

/-- The Gaussian's factor of the histogram. -/
theorem pay49_at (f : Fin 256) (c : Fin 32) :
    k0_pay49 (F := Ideal) (k0_pay7 x l) (ix2 f c) = ((1 / √(twoPi * (va X (msk (lab l) c) f / 25)) : ℝ) : EReal) := by
  pointwise [k0_pay49]
  have e : (2635359 / 10485760 : ℝ) * va X (msk (lab l) c) f = twoPi * (va X (msk (lab l) c) f / 25) := by
    rw [twoPi]; ring
  rw [pay7_at x l X hx, show Named.named (F := Ideal) κ "two_pi_25" (φ := .f32) 0x3E80ADFD#32 = ((2635359 / 10485760 : ℝ) : EReal) from rfl,
    ← EReal.coe_mul, e]
  exact rsqrt_coe (mul_pos twoPi_pos (div_pos (va_pos _ _ _) (by norm_num)))

/-- The histogram's sum over the bins, kept above `eps`. -/
theorem pay50_at (f : Fin 256) (c : Fin 32) :
    k0_pay50 (F := Ideal) (k0_pay7 x l) (hist x l) (ix2 f c) = ((max (∑ b, sv X (msk (lab l) c) f b) eps : ℝ) : EReal) := by
  pointwise [k0_pay50]
  simp only [hist_at x l X hx, coe_sum]
  rw [pay49_at x l X hx, ofBits_eps, ← EReal.coe_mul, coe_max, mul_one_div, Finset.sum_div]
  rfl

/-- The difference of the two distributions. -/
theorem diff_at (b : Fin 51) (f : Fin 256) (c : Fin 32) :
    hist x l (ix3 b f c) * Ideal.div (k0_pay49 (F := Ideal) (k0_pay7 x l) (ix2 f c)) (k0_pay50 (F := Ideal) (k0_pay7 x l) (hist x l) (ix2 f c))
      - k0_pay47 (F := Ideal) (k0_pay6 x l) (k0_pay8 x l) (ix3 b f c) * Ideal.div 1 (k0_pay48 (F := Ideal) (k0_pay6 x l) (k0_pay8 x l) (ix2 f c))
      = ((df X (msk (lab l) c) f b : ℝ) : EReal) := by
  rw [hist_at x l X hx, pay49_at x l X hx, pay50_at x l X hx, pay47_at x l X hx, pay48_at x l X hx, ← EReal.coe_one,
    coe_div _ (sv_max_pos _ _ _).ne', coe_div _ (tg_sum_pos _ _ _).ne', ← EReal.coe_mul, ← EReal.coe_mul, ← EReal.coe_sub]
  congr 1
  unfold df
  rw [mul_one_div, ← mul_div_assoc, mul_one_div]
  rfl

omit hx in
/-- The kernel's choice of the classes 1 to 18 that have a pixel. -/
theorem select_at (c : Fin 32) (n : ℝ) (v : EReal) :
    Scalar.select (IntOp.andi (IntOp.andi (IntOp.cmpi .sge (BitVec.ofNat 32 c) 1#32) (IntOp.cmpi .slt (BitVec.ofNat 32 c) 19#32))
      (BitVec.ofBool (decide (0 < ((n : ℝ) : EReal))))) v 0 = if 1 ≤ (c : ℕ) ∧ (c : ℕ) < 19 then (if 0 < n then v else 0) else 0 := by
  have e : IntOp.andi (IntOp.cmpi .sge (BitVec.ofNat 32 c) 1#32) (IntOp.cmpi .slt (BitVec.ofNat 32 c) 19#32)
      = BitVec.ofBool (decide (1 ≤ (c : ℕ) ∧ (c : ℕ) < 19)) := by
    revert c; decide
  have e' : (0 < ((n : ℝ) : EReal)) ↔ 0 < n := by exact_mod_cast Iff.rfl
  rw [e]
  by_cases h : 1 ≤ (c : ℕ) ∧ (c : ℕ) < 19 <;> by_cases h' : 0 < n <;>
    simp [h, h', Scalar.select, IntOp.andi]

omit hx in
/-- A sum over 32 columns of which only 1 to 18 count. -/
theorem sum_cols (g : ℕ → ℝ) : ∑ c : Fin 32, (if 1 ≤ (c : ℕ) ∧ (c : ℕ) < 19 then g c else 0) = ∑ k : Fin 18, g (k + 1) := by
  rw [Fin.sum_univ_eq_sum_range (fun c => if 1 ≤ c ∧ c < 19 then g c else 0) 32, Fin.sum_univ_eq_sum_range (fun k => g (k + 1)) 18]
  simp [Finset.sum_range_succ]

/-- The launch stores the loss. -/
theorem outv_eq : outv x l (ix2 0 0) = ((loss X (lab l) : ℝ) : EReal) := by
  unfold outv
  pointwise [k0_pay51]
  simp only [diff_at x l X hx, pay4_at l, select_at]
  have e1 : ∀ c : Fin 32, (∑ f : Fin 256, ∑ b : Fin 51,
      if FloatOps.absf (F := Ideal) (φ := .f32) ((df X (msk (lab l) c) f b : ℝ) : EReal) < 1 then
        Ideal.ofBits .f32 0x3F000000#32 * ((df X (msk (lab l) c) f b : ℝ) : EReal) * ((df X (msk (lab l) c) f b : ℝ) : EReal)
      else FloatOps.absf (F := Ideal) (φ := .f32) ((df X (msk (lab l) c) f b : ℝ) : EReal) - Ideal.ofBits .f32 0x3F000000#32)
      * Named.named (F := Ideal) κ "inv_mean" (φ := .f32) 0x38A0A0A1#32
      = (((∑ f, ∑ b, sl (df X (msk (lab l) c) f b)) / 13056 : ℝ) : EReal) := by
    intro c
    rw [show Named.named (F := Ideal) κ "inv_mean" (φ := .f32) 0x38A0A0A1#32 = ((1 / 13056 : ℝ) : EReal) from rfl, ofBits_half]
    simp only [Ideal.absf_def]
    simp only [sl_coe, coe_sum]
    rw [← EReal.coe_mul, mul_one_div]
  have e2 : ∀ c : Fin 32, (if 1 ≤ (c : ℕ) ∧ (c : ℕ) < 19 then (if 0 < cnt (msk (lab l) c) then
      (((∑ f, ∑ b, sl (df X (msk (lab l) c) f b)) / 13056 : ℝ) : EReal) else 0) else 0)
      = ((if 1 ≤ (c : ℕ) ∧ (c : ℕ) < 19 then term X (msk (lab l) c) else 0 : ℝ) : EReal) := by
    intro c
    unfold term has
    split_ifs <;> simp
  have e3 : ∀ c : Fin 32, (if 1 ≤ (c : ℕ) ∧ (c : ℕ) < 19 then (if 0 < cnt (msk (lab l) c) then (1 : EReal) else 0) else 0)
      = ((if 1 ≤ (c : ℕ) ∧ (c : ℕ) < 19 then has (msk (lab l) c) else 0 : ℝ) : EReal) := by
    intro c
    unfold has
    split_ifs <;> simp
  simp only [e1, e2, e3, coe_sum]
  rw [sum_cols (fun c => term X (msk (lab l) c)), sum_cols (fun c => has (msk (lab l) c)), ofBits_eps, ← EReal.coe_add,
    coe_div _ (add_pos_of_nonneg_of_pos (Finset.sum_nonneg fun _ _ => has_nonneg _) eps_pos).ne']
  rfl

end Cert.KernelIdeal.Value

end
-- ==== Proof.RefValue.lean ====
module

public import proofs.«01_k».proof.Proof.Gen.ReferenceIdeal.Run
public import proofs.«01_k».proof.Proof.Math

@[expose] public section

set_option maxRecDepth 16384

noncomputable section

open Idealize.ShloMosaic Idealize.ShloMosaic.TcCoe Idealize.SL.Sem Idealize.ShloMosaic.StableHlo

namespace Cert.ReferenceIdeal.Value

open Cert.ReferenceIdeal Cert.ReferenceIdeal.Gen Cert.Loss

/-- The loop's carried buffers before the trip of class `k + 1`: the classes, the labels, the features, the bins, twice pi, the
    counter, and the two sums over the classes already seen. -/
structure Carried (X : Fin 256 → Fin 4096 → ℝ) (L : Fin 4096 → BitVec 32) (k : ℕ) (V : Valuation τ sig (Elt Ideal)) : Prop where
  cls : ∀ j : Fin 18, V (Proc.devRef .tc main_v8_0) (ix1 j) = BitVec.ofNat 32 (j + 1)
  lab : ∀ p : Fin 4096, V (Proc.devRef .tc main_v8_1) (ix1 p) = L p
  feat : ∀ (f : Fin 256) (p : Fin 4096), V (Proc.devRef .tc main_v8_2) (ix2 f p) = ((X f p : ℝ) : EReal)
  bins : ∀ b : Fin 51, V (Proc.devRef .tc main_v8_3) (ix1 b) = ((ctr b : ℝ) : EReal)
  tau : ∀ i, V (Proc.devRef .tc main_v8_4) i = ((twoPi : ℝ) : EReal)
  count : ∀ i, V (Proc.devRef .tc main_v8_5) i = BitVec.ofNat 32 k
  acc : ∀ i, V (Proc.devRef .tc main_v8_6) i = ((∑ j ∈ Finset.range k, term X (msk L (j + 1)) : ℝ) : EReal)
  act : ∀ i, V (Proc.devRef .tc main_v8_7) i = ((∑ j ∈ Finset.range k, has (msk L (j + 1)) : ℝ) : EReal)

/-- A bit as a float. -/
theorem uitofp_ofBool (q : Prop) [Decidable q] :
    FloatOps.uitofp (F := Ideal) .f32 (BitVec.ofBool (decide q)) = ((if q then 1 else 0 : ℝ) : EReal) := by
  by_cases h : q
  · rw [if_pos h, decide_eq_true h]
    show (((1#1 : BitVec 1).toNat : ℝ) : EReal) = _
    norm_num
  · rw [if_neg h, decide_eq_false h]
    show (((0#1 : BitVec 1).toNat : ℝ) : EReal) = _
    norm_num

section

variable {X : Fin 256 → Fin 4096 → ℝ} {L : Fin 4096 → BitVec 32} {k : ℕ} {V : Valuation τ sig (Elt Ideal)} (hk : k < 18) (h : Carried X L k V)
include hk h

/-- The mask of the trip's class. -/
theorem v14_at (p : Fin 4096) : res_main_while0b_v14 V (ix1 p) = ((msk L (k + 1) p : ℝ) : EReal) := by
  pointwise [res_main_while0b_v14]
  rw [h.lab, h.cls]
  have e : ∀ ht : S1.rank = S18.rank,
      Host.clampedStart S18 S1 ht (fun _ => BitVec.toInt (V (Proc.devRef .tc main_v8_5) (Shape.Idx.first h_S_))) 0 = k := by
    intro ht
    rw [h.count]
    refine Host.clampedStart_of_le ht _ 0 k ?_ (show k + 1 ≤ 18 by omega)
    rw [BitVec.toInt_eq_toNat_cond, BitVec.toNat_ofNat, Nat.mod_eq_of_lt (by omega), if_pos (by omega)]
  have e' := e rfl
  refine (congrArg (fun n => FloatOps.uitofp (F := Ideal) .f32 (IntOp.cmpi .eq (L p) (BitVec.ofNat 32 (n + 1)))) e').trans ?_
  exact uitofp_ofBool (L p = BitVec.ofNat 32 (k + 1))

/-- Its count. -/
theorem v15_at (i : S_.Idx) : res_main_while0b_v15 V i = ((cnt (msk L (k + 1)) : ℝ) : EReal) := by
  pointwise [res_main_while0b_v15]
  simp only [v14_at hk h, coe_sum]
  rfl

/-- Its count, kept at least one. -/
theorem v16_at (i : S_.Idx) : res_main_while0b_v16 V i = ((max (cnt (msk L (k + 1))) 1 : ℝ) : EReal) := by
  pointwise [res_main_while0b_v16]
  rw [v15_at hk h, ← EReal.coe_one, coe_max]

/-- The means. -/
theorem v22_at (f : Fin 256) : res_main_while0b_v22 V (ix1 f) = ((mu X (msk L (k + 1)) f : ℝ) : EReal) := by
  pointwise [res_main_while0b_v22]
  simp only [h.feat, v14_at hk h, v16_at hk h, ← EReal.coe_mul, coe_sum]
  exact coe_div _ (cnt_max_pos _).ne'

/-- The variances. -/
theorem v33_at (f : Fin 256) : res_main_while0b_v33 V (ix1 f) = ((va X (msk L (k + 1)) f : ℝ) : EReal) := by
  pointwise [res_main_while0b_v33]
  simp only [h.feat, v14_at hk h, v16_at hk h, v22_at hk h, ← EReal.coe_mul, coe_sum, ofBits_eps]
  rw [coe_div _ (cnt_max_pos _).ne', ← EReal.coe_sub, coe_max]
  rfl

/-- The squared bandwidths. -/
theorem v35_at (f : Fin 256) : res_main_while0b_v35 V (ix1 f) = ((va X (msk L (k + 1)) f / 25 : ℝ) : EReal) := by
  pointwise [res_main_while0b_v35]
  rw [v33_at hk h, ofBits_25, coe_div _ (by norm_num)]

/-- The Gaussian of the mean, with its factor. -/
theorem v53_at (f : Fin 256) (b : Fin 51) :
    res_main_while0b_v53 V (ix2 f b) = ((tg X (msk L (k + 1)) f b / √(twoPi * va X (msk L (k + 1)) f) : ℝ) : EReal) := by
  have e : res_main_while0b_v40 V (ix2 f b) = ((ctr b - mu X (msk L (k + 1)) f : ℝ) : EReal) := by
    pointwise [res_main_while0b_v40]
    rw [h.bins, v22_at hk h, ← EReal.coe_sub]
  pointwise [res_main_while0b_v53]
  have hv := mul_pos twoPi_pos (va_pos X (msk L (k + 1)) f)
  rw [e, v33_at hk h, h.tau, ofBits_neg_half, ← EReal.coe_mul, ← EReal.coe_mul, ← EReal.coe_mul, coe_div _ (va_pos _ _ _).ne', sqrt_coe hv.le,
    show ∀ r : ℝ, Ideal.exp (r : EReal) = ((Real.exp r : ℝ) : EReal) from fun _ => rfl, coe_div _ (Real.sqrt_pos.mpr hv).ne', tg, mul_assoc]

/-- The soft histogram, with its factor. -/
theorem v79_at (f : Fin 256) (b : Fin 51) : res_main_while0b_v79 V (ix2 f b) = ((sv X (msk L (k + 1)) f b : ℝ) : EReal) := by
  have e : ∀ p : Fin 4096, res_main_while0b_v62 V (ix3 f b p) = ((ctr b - X f p : ℝ) : EReal) := by
    intro p
    pointwise [res_main_while0b_v62]
    rw [h.bins, h.feat, ← EReal.coe_sub]
  have hv := va_pos X (msk L (k + 1)) f
  pointwise [res_main_while0b_v79]
  simp only [e, v35_at hk h, v14_at hk h, h.tau, ofBits_neg_half, ← EReal.coe_mul, coe_div _ (div_pos hv (by norm_num : (0 : ℝ) < 25)).ne',
    show ∀ r : ℝ, Ideal.exp (r : EReal) = ((Real.exp r : ℝ) : EReal) from fun _ => rfl, coe_sum]
  rw [sqrt_coe (mul_pos twoPi_pos (div_pos hv (by norm_num))).le, coe_div _ (root_pos _ _ _).ne', sv, hh]
  refine congrArg (fun t : ℝ => ((t / √(twoPi * (va X (msk L (k + 1)) f / 25)) : ℝ) : EReal)) (Finset.sum_congr rfl fun p _ => ?_)
  congr 2
  field_simp

/-- The difference of the two distributions. -/
theorem v86_at (f : Fin 256) (b : Fin 51) : res_main_while0b_v86 V (ix2 f b) = ((df X (msk L (k + 1)) f b : ℝ) : EReal) := by
  pointwise [res_main_while0b_v86]
  have hr := Real.sqrt_pos.mpr (mul_pos twoPi_pos (va_pos X (msk L (k + 1)) f))
  simp only [v79_at hk h, v53_at hk h, coe_sum, ofBits_eps]
  rw [coe_max, coe_div _ (sv_max_pos _ _ _).ne', ← Finset.sum_div, coe_div _ (div_pos (tg_sum_pos _ _ _) hr).ne', ← EReal.coe_sub,
    div_div_div_cancel_right₀ hr.ne']
  rfl

/-- One if the class has a pixel, else zero. -/
theorem v99_at (i : S_.Idx) : res_main_while0b_v99 V i = ((has (msk L (k + 1)) : ℝ) : EReal) := by
  pointwise [res_main_while0b_v99]
  rw [v15_at hk h, uitofp_ofBool, has]
  have e : (0 < ((cnt (msk L (k + 1)) : ℝ) : EReal)) ↔ 0 < cnt (msk L (k + 1)) := by exact_mod_cast Iff.rfl
  simp only [e]

/-- One trip adds the class's term and counts the class. -/
theorem carried_step : Carried X L (k + 1) (STEP V) where
  cls j := by rw [STEP_main_v8_0]; exact h.cls j
  lab p := by rw [STEP_main_v8_1]; exact h.lab p
  feat f p := by rw [STEP_main_v8_2]; exact h.feat f p
  bins b := by rw [STEP_main_v8_3]; exact h.bins b
  tau i := by rw [STEP_main_v8_4]; exact h.tau i
  count i := by
    rw [STEP_main_v8_5]
    simp only [step_main_v8_5, id_eq]
    pointwise []
    rw [h.count]
    show BitVec.ofNat 32 k + BitVec.ofNat 32 1 = _
    rw [← BitVec.ofNat_add]
  acc i := by
    have e87 : ∀ (f : Fin 256) (b : Fin 51), res_main_while0b_v87 V (ix2 f b)
        = max ((df X (msk L (k + 1)) f b : ℝ) : EReal) (-((df X (msk L (k + 1)) f b : ℝ) : EReal)) := by
      intro f b
      pointwise [res_main_while0b_v87]
      rw [v86_at hk h]
      rfl
    rw [STEP_main_v8_6]
    simp only [step_main_v8_6, id_eq]
    pointwise []
    simp only [e87, v86_at hk h, v99_at hk h, ofBits_half, sl_coe, coe_sum]
    rw [h.acc, ofBits_13056, coe_div _ (by norm_num), ← EReal.coe_mul, ← EReal.coe_add, Finset.sum_range_succ]
    rfl
  act i := by
    rw [STEP_main_v8_7]
    simp only [step_main_v8_7, id_eq]
    pointwise []
    rw [h.act, v99_at hk h, ← EReal.coe_add, Finset.sum_range_succ]

end

/-- After eighteen trips the loss is the quotient of the two sums. -/
theorem out_at {X : Fin 256 → Fin 4096 → ℝ} {L : Fin 4096 → BitVec 32} {V : Valuation τ sig (Elt Ideal)} (h : Carried X L 18 V) :
    out_main_v10 V = fun _ => ((loss X L : ℝ) : EReal) := by
  funext i
  pointwise [out_main_v10]
  rw [h.acc, h.act, ofBits_eps, ← EReal.coe_add, Finset.sum_range (n := 18), Finset.sum_range (n := 18),
    coe_div _ (add_pos_of_nonneg_of_pos (Finset.sum_nonneg fun _ _ => has_nonneg _) eps_pos).ne']
  rfl

variable (m : (ℓ : Loc nD τ sig) → Buf (Elt Ideal) ℓ) (c : Dev nD)

/-- The features, row by feature, pixel by column. -/
def feat : FVec Ideal S256x4096 .f32 :=
  shapeCast S256x4096 (shapeCast S256x64x64 (m ((c.tc : Thread nD τ).loc main_arg0) : FVec Ideal S1x256x64x64 .f32) shapeCasts_S1x256x64x64_S256x64x64) shapeCasts_S256x64x64_S256x4096

/-- The labels, one per pixel. -/
def labs : IVec S4096 32 :=
  shapeCast S4096 (shapeCast S64x64 (m ((c.tc : Thread nD τ).loc main_arg1) : IVec S1x1x64x64 32) shapeCasts_S1x1x64x64_S64x64) shapeCasts_S64x64_S4096

/-- The bins as the reference makes them: 51 points from -5 to 5, the last one set. -/
def binsV : FVec Ideal S51 .f32 :=
  have frac : FVec Ideal S50 .f32 := Host.divf (sitofp .f32 (iotaInDim S50 32 0)) (broadcastInDim S50 ![] bcast_S_S50 (constant S_ .f32 0x42480000#32))
  concatenate S51 0 [⟨S50, addf (mulf (broadcastInDim S50 ![0] bcast_S1_S50_0 (shapeCast S1 (constant S_ .f32 0xC0A00000#32 : FVec Ideal S_ .f32) shapeCasts_S_S1))
      (subf (broadcastInDim S50 ![] bcast_S_S50 (constant S_ .f32 0x3F800000#32)) frac))
      (mulf (broadcastInDim S50 ![0] bcast_S1_S50_0 (shapeCast S1 (constant S_ .f32 0x40A00000#32 : FVec Ideal S_ .f32) shapeCasts_S_S1)) frac)⟩,
    ⟨S1, broadcastInDim S1 ![] bcast_S_S1 (constant S_ .f32 0x40A00000#32)⟩] concatenates_S50_S1_S51_d0

/-- Bin `b` is centred at `-5 + b / 5`. -/
theorem binsV_at (b : Fin 51) : binsV (ix1 b) = ((ctr b : ℝ) : EReal) := by
  pointwise [binsV]
  rw [sitofp_ofNat _ (by omega), ofBits_five, ofBits_50, ofBits_neg_five, coe_div _ (by norm_num), ← EReal.coe_one, ← EReal.coe_sub,
    ← EReal.coe_mul, ← EReal.coe_mul, ← EReal.coe_add]
  by_cases h : (b : ℕ) < 50
  · rw [dif_pos h]
    congr 1
    unfold ctr
    ring
  · rw [dif_neg h, show (b : ℕ) = 50 by omega]
    congr 1
    norm_num [ctr]

/-- Before the first trip nothing is summed yet. -/
theorem carried_zero (X : Fin 256 → Fin 4096 → ℝ) (hx : ∀ f p, feat m c (ix2 f p) = ((X f p : ℝ) : EReal)) :
    Carried X (fun p => labs m c (ix1 p)) 0 (entryContents preI m c) where
  cls j := by
    simp only [entryContents, preI, afterL_cons, afterL_nil]
    after_results
    simp only [id_eq]
    pointwise []
    show BitVec.ofNat 32 1 + BitVec.ofNat 32 j = _
    rw [← BitVec.ofNat_add, Nat.add_comm]
  lab p := by
    have e : entryContents preI m c (Proc.devRef .tc main_v8_1) = labs m c := by
      simp only [entryContents, preI, afterL_cons, afterL_nil]
      after_results
      rfl
    rw [e]
  feat f p := by
    have e : entryContents preI m c (Proc.devRef .tc main_v8_2) = feat m c := by
      simp only [entryContents, preI, afterL_cons, afterL_nil]
      after_results
      rfl
    rw [e]
    exact hx f p
  bins b := by
    have e : entryContents preI m c (Proc.devRef .tc main_v8_3) = binsV := by
      simp only [entryContents, preI, afterL_cons, afterL_nil]
      after_results
      rfl
    rw [e]
    exact binsV_at b
  tau i := by
    simp only [entryContents, preI, afterL_cons, afterL_nil]
    after_results
    exact ofBits_twoPi
  count i := by
    simp only [entryContents, preI, afterL_cons, afterL_nil]
    after_results
    rfl
  acc i := by
    simp only [entryContents, preI, afterL_cons, afterL_nil]
    after_results
    simp only [id_eq]
    pointwise []
    simp
  act i := by
    simp only [entryContents, preI, afterL_cons, afterL_nil]
    after_results
    simp only [id_eq]
    pointwise []
    simp

/-- After `k` trips the buffers hold the sums of `k` classes. -/
theorem carried_iter (X : Fin 256 → Fin 4096 → ℝ) (hx : ∀ f p, feat m c (ix2 f p) = ((X f p : ℝ) : EReal)) :
    ∀ k, k ≤ 18 → Carried X (fun p => labs m c (ix1 p)) k (STEP^[k] (entryContents preI m c))
  | 0, _ => carried_zero m c X hx
  | k + 1, h => by
    rw [Function.iterate_succ_apply']
    exact carried_step (by omega) (carried_iter X hx k (by omega))

/-- THE REFERENCE'S RESULT of real features: the loss. -/
theorem result (X : Fin 256 → Fin 4096 → ℝ) (hx : ∀ f p, feat m c (ix2 f p) = ((X f p : ℝ) : EReal)) :
    out_main_v10 (STEP^[18] (entryContents preI m c)) = fun _ => ((loss X (fun p => labs m c (ix1 p)) : ℝ) : EReal) :=
  out_at (carried_iter m c X hx 18 le_rfl)

end Cert.ReferenceIdeal.Value

end
-- ==== Proof.Algebraic.lean ====
module

public import proofs.«01_k».proof.Proof.Claims
public import proofs.«01_k».proof.Proof.KernelRun
public import proofs.«01_k».proof.Proof.KernelValue
public import proofs.«01_k».proof.Proof.RefValue
public import Idealize.ShloMosaic.Lib.Claim

@[expose] public section

set_option maxRecDepth 16384

noncomputable section

open Idealize.ShloMosaic Idealize.ShloMosaic.TcCoe Idealize.SL.Sem

namespace Cert.Proof

/-- The side condition of the precondition's one broadcast. -/
instance finite_facts : Cert.Pre_finite.Facts := ⟨by decide⟩

/-- `frame_pi` at finite features. -/
theorem frame_pi_finite : Cert.quiescent_KernelIdeal_pre_finite := fun m ρ _ => frame_pi m ρ trivial

/-- `frame_ri` at finite features. -/
theorem frame_ri_finite : Cert.quiescent_ReferenceIdeal_pre_finite := fun m ρ _ => frame_ri m ρ trivial

/-- An extended real whose absolute value is below infinity is a real. -/
theorem real_of_abs_lt (a : EReal) (h : max a (-a) < ⊤) : a = ((a.toReal : ℝ) : EReal) := by
  refine (EReal.coe_toReal ?_ ?_).symm
  · rintro rfl; simp at h
  · rintro rfl; simp at h

/-- Of an argument of which the precondition holds, every element is a real. -/
theorem real_of_finite (x : FVec Ideal Cert.Pre_finite.S1x256x64x64 .f32) (l : IVec Cert.Pre_finite.S1x1x64x64 32)
    (h : Cert.Pre_finite.fn (F := Ideal) x l = fun _ => 1#1) (i) : x i = (((x i : EReal).toReal : ℝ) : EReal) := by
  have e := congrFun h i
  change BitVec.ofBool (decide (max (x i : EReal) (-(x i : EReal)) < Ideal.ofBits .f32 0x7F800000#32)) = 1#1 at e
  have t : Ideal.ofBits .f32 0x7F800000#32 = ⊤ := by simp [Ideal.ofBits, Ideal.ieee]
  rw [t] at e
  refine real_of_abs_lt _ ?_
  by_contra hn
  rw [decide_eq_false hn] at e
  exact absurd e (by decide)

/-- Kernel and reference cut the features the same way. -/
theorem feat_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    ReferenceIdeal.Value.feat m' c = KernelIdeal.Value.feat m c := by
  unfold ReferenceIdeal.Value.feat KernelIdeal.Value.feat
  rw [h]

/-- The labels as one row of pixels and as a list of pixels hold the same label at a pixel. -/
theorem labs_cut (x : IVec KernelIdeal.S1x1x64x64 32) (h : KernelIdeal.S1x1x64x64.ShapeCasts KernelIdeal.S1x4096)
    (h1 : ReferenceIdeal.S1x1x64x64.ShapeCasts ReferenceIdeal.S64x64) (h2 : ReferenceIdeal.S64x64.ShapeCasts ReferenceIdeal.S4096) (p : Fin 4096) :
    shapeCast ReferenceIdeal.S4096 (shapeCast ReferenceIdeal.S64x64 x h1) h2 (ix1 p) = shapeCast KernelIdeal.S1x4096 x h (ix2 0 p) := by
  pointwise []

/-- Kernel and reference cut the labels the same way. -/
theorem labs_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg1)
      = m ((c.tc : Thread KernelIdeal.nD KernelIdeal.τ).loc KernelIdeal.main_arg1)) (p : Fin 4096) :
    ReferenceIdeal.Value.labs m' c (ix1 p) = KernelIdeal.Value.labs m c (ix2 0 p) := by
  unfold ReferenceIdeal.Value.labs KernelIdeal.Value.labs
  rw [h]
  exact labs_cut _ _ _ _ p

/-- The features as real numbers. -/
def feats (m : (ℓ : Loc KernelIdeal.nD KernelIdeal.τ KernelIdeal.sig) → Buf (Elt Ideal) ℓ) (c : Dev KernelIdeal.nD) (f : Fin 256) (p : Fin 4096) : ℝ :=
  (KernelIdeal.Value.feat m c (ix2 f p) : EReal).toReal

/-- Under the precondition every feature is a real. -/
theorem feat_real (m : (ℓ : Loc KernelIdeal.nD KernelIdeal.τ KernelIdeal.sig) → Buf (Elt Ideal) ℓ) (h : Cert.Pre_KernelIdeal_finite m)
    (c : Dev KernelIdeal.nD) (f : Fin 256) (p : Fin 4096) :
    KernelIdeal.Value.feat m c (ix2 f p) = ((feats m c f p : ℝ) : EReal) :=
  real_of_finite _ _ (h c) _

/-- Kernel and reference, run on the same real features and labels, end with the same loss. -/
theorem algebraic : Cert.algebraic_KernelIdeal_ReferenceIdeal_pre_finite := by
  intro m g m' g' hpre hagree
  refine ⟨fun c _ => ((Loss.loss (feats m c) (fun p => KernelIdeal.Value.labs m c (ix2 0 p)) : ℝ) : EReal), ?_, ?_⟩
  · refine (θ_run KernelIdeal.defs _ _).mono (fun r h c => ⟨?_, (h c).2⟩) (KernelIdeal.Value.run m g)
    exact (h c).1.trans (funext fun _ => KernelIdeal.Value.outv_eq _ _ (feats m c) (feat_real m hpre c))
  · refine (θ_run ReferenceIdeal.defs _ _).mono (fun r h c => ⟨?_, (h c).2⟩) (ReferenceIdeal.Value.run m' g')
    have hx : ∀ f p, ReferenceIdeal.Value.feat m' c (ix2 f p) = ((feats m c f p : ℝ) : EReal) := by
      rw [feat_agree m m' c (hagree c).1]
      exact feat_real m hpre c
    refine ((h c).1.trans (ReferenceIdeal.Value.result m' c (feats m c) hx)).trans ?_
    rw [funext (labs_agree m m' c (hagree c).2)]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the three programs run and leave their arguments alone, the named constants are what their names say, and
    kernel and reference end with the same loss of finite features. -/
theorem claim : Cert.Claim :=
  ⟨Cert.Kernel.Gen.facts, Cert.KernelIdeal.Gen.facts, Cert.ReferenceIdeal.Gen.facts, finite_facts,
    frame_p, frame_pi, frame_pi_finite, frame_ri, frame_ri_finite, preserves, algebraic⟩

end Cert.Proof

end
